-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_of_table [hPre_rows_of_table : Cert.Pre_rows_of_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_of_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_of_table [hPre_rows_of_table : Cert.Pre_rows_of_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_of_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_rows_of_table [hKernelIdeal : Cert.KernelIdeal.Facts] [hPre_rows_of_table : Cert.Pre_rows_of_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_of_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_rows_of_table [hReferenceIdeal : Cert.ReferenceIdeal.Facts] [hPre_rows_of_table : Cert.Pre_rows_of_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_of_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_rows_of_table [hKernelIdeal : Cert.KernelIdeal.Facts] [hReferenceIdeal : Cert.ReferenceIdeal.Facts] [hPre_rows_of_table : Cert.Pre_rows_of_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_of_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_rows_of_table : Cert.Pre_rows_of_table.Facts),
    quiescent_Kernel (hKernel := hKernel)
    ∧ quiescent_KernelIdeal (hKernelIdeal := hKernelIdeal)
    ∧ quiescent_KernelIdeal_pre_rows_of_table (hKernelIdeal := hKernelIdeal) (hPre_rows_of_table := hPre_rows_of_table)
    ∧ quiescent_ReferenceIdeal (hReferenceIdeal := hReferenceIdeal)
    ∧ quiescent_ReferenceIdeal_pre_rows_of_table (hReferenceIdeal := hReferenceIdeal) (hPre_rows_of_table := hPre_rows_of_table)
    ∧ preserves_Kernel_KernelIdeal
    ∧ algebraic_KernelIdeal_ReferenceIdeal_pre_rows_of_table (hKernelIdeal := hKernelIdeal) (hReferenceIdeal := hReferenceIdeal) (hPre_rows_of_table := hPre_rows_of_table)
-- ==== Pre_rows_of_table.lean ====
abbrev S1024x1984x32 : Shape := ⟨3, ![1024, 1984, 32]⟩
abbrev S32x64 : Shape := ⟨2, ![32, 64]⟩
abbrev S64 : Shape := ⟨1, ![64]⟩
abbrev S4x64 : Shape := ⟨2, ![4, 64]⟩
abbrev S1984 : Shape := ⟨1, ![1984]⟩
abbrev S_ : Shape := ⟨0, ![]⟩

class Facts : Prop where
  bcast_S_S1984 : S_.BroadcastsInDim S1984 (![] : Fin 0 → Fin S1984.rank)

variable [Facts]

def fn {F : FTy → Type} [FloatOps F] (main_arg0 : FVec F S1024x1984x32 .f32) (main_arg1 : FVec F S32x64 .f32) (main_arg2 : FVec F S64 .f32) (main_arg3 : FVec F S4x64 .f32) (main_arg4 : IVec S1984 32) : IVec S1984 1 :=
  let main_c : IVec S_ 32 := constantI S_ 32 0#32
  let main_v0 : IVec S1984 32 := broadcastInDim S1984 ![] bcast_S_S1984 main_c
  let main_v1 : IVec S1984 1 := cmpi .sge main_arg4 main_v0
  let main_c_0 : IVec S_ 32 := constantI S_ 32 4#32
  let main_v2 : IVec S1984 32 := broadcastInDim S1984 ![] bcast_S_S1984 main_c_0
  let main_v3 : IVec S1984 1 := cmpi .slt main_arg4 main_v2
  let main_v4 : IVec S1984 1 := andi main_v1 main_v3
  main_v4
-- ==== Kernel.lean ====
abbrev S1024x1984x32 : Shape := ⟨3, ![1024, 1984, 32]⟩
abbrev S32x64 : Shape := ⟨2, ![32, 64]⟩
abbrev S64 : Shape := ⟨1, ![64]⟩
abbrev S4x64 : Shape := ⟨2, ![4, 64]⟩
abbrev S1984 : Shape := ⟨1, ![1984]⟩
abbrev S1984x32x1024 : Shape := ⟨3, ![1984, 32, 1024]⟩
abbrev S1x64 : Shape := ⟨2, ![1, 64]⟩
abbrev S64x32 : Shape := ⟨2, ![64, 32]⟩
abbrev S64x4 : Shape := ⟨2, ![64, 4]⟩
abbrev S_ : Shape := ⟨0, ![]⟩
abbrev S64x40 : Shape := ⟨2, ![64, 40]⟩
abbrev S1984x1x1 : Shape := ⟨3, ![1984, 1, 1]⟩
abbrev S1984x64x1024 : Shape := ⟨3, ![1984, 64, 1024]⟩
abbrev S62x1x1 : Shape := ⟨3, ![62, 1, 1]⟩
abbrev S62x32x1024 : Shape := ⟨3, ![62, 32, 1024]⟩
abbrev S62x64x1024 : Shape := ⟨3, ![62, 64, 1024]⟩
abbrev S62x8x1024 : Shape := ⟨3, ![62, 8, 1024]⟩
abbrev S62x40x1024 : Shape := ⟨3, ![62, 40, 1024]⟩
abbrev S1x64x40 : Shape := ⟨3, ![1, 64, 40]⟩
abbrev S62x64x40 : Shape := ⟨3, ![62, 64, 40]⟩
abbrev S1024x1984x64 : Shape := ⟨3, ![1024, 1984, 64]⟩

abbrev nBuf : Space → Nat
  | .hbm => 17
  | .vmem => 7
  | .smem => 0
  | _ => 0

abbrev bufTy : (tb : Table) → Fin (tcTables nBuf tb) → BufTy
  | .hbm, ⟨0, _⟩ => ⟨S1024x1984x32, .f32⟩
  | .hbm, ⟨1, _⟩ => ⟨S32x64, .f32⟩
  | .hbm, ⟨2, _⟩ => ⟨S64, .f32⟩
  | .hbm, ⟨3, _⟩ => ⟨S4x64, .f32⟩
  | .hbm, ⟨4, _⟩ => ⟨S1984, .i32⟩
  | .hbm, ⟨5, _⟩ => ⟨S1984x32x1024, .f32⟩
  | .hbm, ⟨6, _⟩ => ⟨S1x64, .f32⟩
  | .hbm, ⟨7, _⟩ => ⟨S4x64, .f32⟩
  | .hbm, ⟨8, _⟩ => ⟨S4x64, .f32⟩
  | .hbm, ⟨9, _⟩ => ⟨S64x32, .f32⟩
  | .hbm, ⟨10, _⟩ => ⟨S64x4, .f32⟩
  | .hbm, ⟨11, _⟩ => ⟨S_, .f32⟩
  | .hbm, ⟨12, _⟩ => ⟨S64x4, .f32⟩
  | .hbm, ⟨13, _⟩ => ⟨S64x40, .f32⟩
  | .hbm, ⟨14, _⟩ => ⟨S1984x1x1, .i32⟩
  | .hbm, ⟨15, _⟩ => ⟨S1984x64x1024, .f32⟩
  | .hbm, ⟨16, _⟩ => ⟨S1024x1984x64, .f32⟩
  | .local _ .vmem, ⟨0, _⟩ => ⟨S62x1x1, .i32⟩
  | .local _ .vmem, ⟨1, _⟩ => ⟨S62x1x1, .i32⟩
  | .local _ .vmem, ⟨2, _⟩ => ⟨S62x32x1024, .f32⟩
  | .local _ .vmem, ⟨3, _⟩ => ⟨S62x32x1024, .f32⟩
  | .local _ .vmem, ⟨4, _⟩ => ⟨S64x40, .f32⟩
  | .local _ .vmem, ⟨5, _⟩ => ⟨S62x64x1024, .f32⟩
  | .local _ .vmem, ⟨6, _⟩ => ⟨S62x64x1024, .f32⟩
  | _, _ => ⟨S1024x1984x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S62x1x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S62x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S62x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x1984x32 : Shape := ⟨3, ![1024, 1984, 32]⟩
abbrev S32x64 : Shape := ⟨2, ![32, 64]⟩
abbrev S64 : Shape := ⟨1, ![64]⟩
abbrev S4x64 : Shape := ⟨2, ![4, 64]⟩
abbrev S1984 : Shape := ⟨1, ![1984]⟩
abbrev S_ : Shape := ⟨0, ![]⟩
abbrev S1984x1 : Shape := ⟨2, ![1984, 1]⟩
abbrev S1 : Shape := ⟨1, ![1]⟩
abbrev S1x1 : Shape := ⟨2, ![1, 1]⟩
abbrev S1984x64 : Shape := ⟨2, ![1984, 64]⟩
abbrev S1024x1984x64 : Shape := ⟨3, ![1024, 1984, 64]⟩
abbrev S1x1x64 : Shape := ⟨3, ![1, 1, 64]⟩
abbrev S1x1984x64 : Shape := ⟨3, ![1, 1984, 64]⟩

abbrev nBuf : Space → Nat
  | .hbm => 35
  | .vmem => 0
  | .smem => 0
  | _ => 0

abbrev bufTy : (tb : Table) → Fin (tcTables nBuf tb) → BufTy
  | .hbm, ⟨0, _⟩ => ⟨S1024x1984x32, .f32⟩
  | .hbm, ⟨1, _⟩ => ⟨S32x64, .f32⟩
  | .hbm, ⟨2, _⟩ => ⟨S64, .f32⟩
  | .hbm, ⟨3, _⟩ => ⟨S4x64, .f32⟩
  | .hbm, ⟨4, _⟩ => ⟨S1984, .i32⟩
  | .hbm, ⟨5, _⟩ => ⟨S_, .i32⟩
  | .hbm, ⟨6, _⟩ => ⟨S1984, .i32⟩
  | .hbm, ⟨7, _⟩ => ⟨S1984, .i1⟩
  | .hbm, ⟨8, _⟩ => ⟨S_, .i32⟩
  | .hbm, ⟨9, _⟩ => ⟨S1984, .i32⟩
  | .hbm, ⟨10, _⟩ => ⟨S1984, .i32⟩
  | .hbm, ⟨11, _⟩ => ⟨S1984, .i32⟩
  | .hbm, ⟨12, _⟩ => ⟨S1984x1, .i32⟩
  | .hbm, ⟨13, _⟩ => ⟨S1, .i32⟩
  | .hbm, ⟨14, _⟩ => ⟨S_, .i32⟩
  | .hbm, ⟨15, _⟩ => ⟨S1984x1, .i32⟩
  | .hbm, ⟨16, _⟩ => ⟨S1984x1, .i1⟩
  | .hbm, ⟨17, _⟩ => ⟨S1x1, .i32⟩
  | .hbm, ⟨18, _⟩ => ⟨S1984x1, .i32⟩
  | .hbm, ⟨19, _⟩ => ⟨S1984x1, .i1⟩
  | .hbm, ⟨20, _⟩ => ⟨S1984x1, .i1⟩
  | .hbm, ⟨21, _⟩ => ⟨S_, .i1⟩
  | .hbm, ⟨22, _⟩ => ⟨S1984, .i1⟩
  | .hbm, ⟨23, _⟩ => ⟨S1984x64, .f32⟩
  | .hbm, ⟨24, _⟩ => ⟨S1984x64, .i1⟩
  | .hbm, ⟨25, _⟩ => ⟨S_, .f32⟩
  | .hbm, ⟨26, _⟩ => ⟨S1984x64, .f32⟩
  | .hbm, ⟨27, _⟩ => ⟨S1984x64, .f32⟩
  | .hbm, ⟨28, _⟩ => ⟨S1024x1984x64, .f32⟩
  | .hbm, ⟨29, _⟩ => ⟨S1x1x64, .f32⟩
  | .hbm, ⟨30, _⟩ => ⟨S1024x1984x64, .f32⟩
  | .hbm, ⟨31, _⟩ => ⟨S1024x1984x64, .f32⟩
  | .hbm, ⟨32, _⟩ => ⟨S1x1984x64, .f32⟩
  | .hbm, ⟨33, _⟩ => ⟨S1024x1984x64, .f32⟩
  | .hbm, ⟨34, _⟩ => ⟨S1024x1984x64, .f32⟩
  | _, _ => ⟨S1024x1984x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]
-- ==== Proof.Segments.lean ====
/- The precondition, read: every segment number is a row of the table. -/
module

public import proofs.«01_k».proof.Proof.Gen.Pre_rows_of_table
public import Idealize.ShloMosaic.Lib.Pipeline.ValueKit
public import Idealize.ShloMosaic.Lib.Pointwise

@[expose] public section

noncomputable section

open Idealize.ShloMosaic Idealize.SL.Sem

namespace Cert.Pre_rows_of_table.EmbedValue

open Cert.Pre_rows_of_table Cert.Pre_rows_of_table.Gen

/-- A word that is signed at least zero and signed below four is one of the four row numbers. -/
theorem row_of_word (v : BitVec 32)
    (h : IntOp.andi (IntOp.cmpi CmpIPredicate.sge v 0#32) (IntOp.cmpi CmpIPredicate.slt v 4#32) = 1#1) :
    ∃ k : Fin 4, v = BitVec.ofNat 32 k.val := by
  have hb : (0#32).sle v = true ∧ v.slt 4#32 = true := by
    simp only [IntOp.cmpi, IntOp.andi] at h
    revert h
    cases (0#32).sle v <;> cases v.slt 4#32 <;> simp
  have h0 : 0 ≤ v.toInt := by simpa [BitVec.sle] using hb.1
  have h4 : v.toInt < 4 := by simpa [BitVec.slt] using hb.2
  have hn : v.toNat < 4 := by
    have := v.isLt
    rw [BitVec.toInt_eq_toNat_cond] at h0 h4
    split at h0 <;> omega
  exact ⟨⟨v.toNat, hn⟩, by simp⟩

/-- Where the precondition is all ones, every patch has a table row as its segment. -/
theorem rows_exist (X : FVec Ideal S1024x1984x32 .f32) (W : FVec Ideal S32x64 .f32) (B : FVec Ideal S64 .f32)
    (T : FVec Ideal S4x64 .f32) (s : IVec S1984 32) (h : fn (F := Ideal) X W B T s = fun _ => 1#1) :
    ∃ k : Fin 1984 → Fin 4, ∀ p, s (ix1 p) = BitVec.ofNat 32 (k p).val := by
  have hp : ∀ p : Fin 1984, ∃ k : Fin 4, s (ix1 p) = BitVec.ofNat 32 k.val := fun p => by
    have h1 := congrFun h (ix1 p)
    exact row_of_word _ h1
  exact ⟨fun p => (hp p).choose, fun p => (hp p).choose_spec⟩

end Cert.Pre_rows_of_table.EmbedValue

end
-- ==== Proof.Block.lean ====
/- What one grid point computes. Its block of the result is a batched product of the 64 × 40 left operand with,
   for each patch, the 32 feature rows stacked on the 8 rows of the patch's one-hot segment vector. Entry by entry
   that is a 32-term feature sum plus the one left-operand column the one-hot picks. -/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

open Idealize.ShloMosaic Idealize.SL.Sem

namespace Cert.KernelIdeal.EmbedValue

open Cert.KernelIdeal Cert.KernelIdeal.Gen

/-- The one-hot entry of a patch in segment `k` at class `j`: one where they agree, zero elsewhere. -/
theorem onehot_entry (k : Fin 4) (j : Fin 8) :
    (FloatOps.sitofp (F := Ideal) FTy.f32
      (BitVec.setWidth 32 (IntOp.cmpi CmpIPredicate.eq (BitVec.ofNat 32 k.val) (BitVec.ofNat 32 j.val))) : EReal)
      = if j = ⟨k.val, by omega⟩ then 1 else 0 := by
  have h : (BitVec.setWidth 32 (IntOp.cmpi CmpIPredicate.eq (BitVec.ofNat 32 k.val) (BitVec.ofNat 32 j.val)))
      = if j = ⟨k.val, by omega⟩ then 1#32 else 0#32 := by
    revert k j; decide
  rw [h]
  split
  · show (((1#32 : BitVec 32).toInt : ℝ) : EReal) = 1
    norm_num
  · show (((0#32 : BitVec 32).toInt : ℝ) : EReal) = 0
    norm_num

/-- A sum of eight entries weighted by the one-hot vector of segment `k` is the entry at `k`. -/
theorem onehot_sum (k : Fin 4) (f : Fin 8 → EReal) :
    (∑ j : Fin 8, f j * (FloatOps.sitofp (F := Ideal) FTy.f32
      (BitVec.setWidth 32 (IntOp.cmpi CmpIPredicate.eq (BitVec.ofNat 32 k.val) (BitVec.ofNat 32 j.val))) : EReal))
      = f ⟨k.val, by omega⟩ := by
  simp only [onehot_entry, mul_ite, mul_one, mul_zero, Finset.sum_ite_eq', Finset.mem_univ, if_true]

/-- One block at patch `p`, embedding entry `e`, batch entry `b`, for a patch in segment `k`: the feature sum over the
    left operand's first 32 columns plus its column `32 + k`. -/
theorem block_at (x : FVec Ideal S62x32x1024 .f32) (l : FVec Ideal S64x40 .f32) (s : IVec S62x1x1 32)
    (p : Fin 62) (e : Fin 64) (b : Fin 1024) (k : Fin 4) (hk : s (ix3 p 0 0) = BitVec.ofNat 32 k.val) :
    (k0_pay1 (F := Ideal) x l s (ix3 p e b) : EReal)
      = (∑ d : Fin 32, (l (ix2 e ⟨d.val, by omega⟩) * x (ix3 p d b) : EReal)) + l (ix2 e ⟨32 + k.val, by omega⟩) := by
  pointwise [k0_pay1]
  rw [hk]
  exact congrArg _ (onehot_sum k fun j => l (ix2 e ⟨32 + j.val, by omega⟩))

end Cert.KernelIdeal.EmbedValue

end
-- ==== Proof.Operand.lean ====
/- The left operand the host assembles before the region: `W` transposed, then the table with the bias added to every
   row, transposed, then four columns of zeros. -/
module

public import proofs.«01_k».proof.Proof.Gen.KernelIdeal
public import Idealize.ShloMosaic.Lib.Pipeline.ValueKit
public import Idealize.ShloMosaic.Lib.Pointwise

@[expose] public section

set_option maxRecDepth 16384

noncomputable section

open Idealize.ShloMosaic Idealize.SL.Sem

namespace Cert.KernelIdeal.EmbedValue

open Cert.KernelIdeal Cert.KernelIdeal.Gen

/-- The 64 × 40 left operand made of the weights `W`, the bias `B` and the segment table `T`. -/
def operand (W : FVec Ideal S32x64 .f32) (B : FVec Ideal S64 .f32) (T : FVec Ideal S4x64 .f32) : FVec Ideal S64x40 .f32 :=
  concatenate S64x40 1
    [⟨S64x32, transpose S64x32 [1, 0] W transposes_S32x64_S64x32_1_0⟩,
     ⟨S64x4, transpose S64x4 [1, 0]
        (addf T (broadcastInDim S4x64 ![0, 1] bcast_S1x64_S4x64_0_1 (broadcastInDim S1x64 ![1] bcast_S64_S1x64_1 B)))
        transposes_S4x64_S64x4_1_0⟩,
     ⟨S64x4, broadcastInDim S64x4 ![] bcast_S_S64x4 (constant S_ FTy.f32 0#32)⟩]
    concatenates_S64x32_S64x4_S64x4_S64x40_d1

/-- Its first 32 columns are the weights. -/
theorem operand_weight (W : FVec Ideal S32x64 .f32) (B : FVec Ideal S64 .f32) (T : FVec Ideal S4x64 .f32)
    (e : Fin 64) (d : Fin 32) : operand W B T (ix2 e ⟨d.val, by omega⟩) = W (ix2 d e) := by
  pointwise [operand]

/-- Its column `32 + k` is row `k` of the table plus the bias. -/
theorem operand_table (W : FVec Ideal S32x64 .f32) (B : FVec Ideal S64 .f32) (T : FVec Ideal S4x64 .f32)
    (e : Fin 64) (k : Fin 4) :
    operand W B T (ix2 e ⟨32 + k.val, by omega⟩) = (T (ix2 k e) + B (ix1 e) : EReal) := by
  pointwise [operand]

end Cert.KernelIdeal.EmbedValue

end
-- ==== Proof.Array.lean ====
/- What the region leaves in its output array, and what the run leaves in the result. Grid point `t` owns patches
   `62 t … 62 t + 61`; its blocks are read off the arrays the host prepared, and the 32 blocks fill the array. -/
module

public import proofs.«01_k».proof.Proof.Gen.KernelIdeal.Frame
public import proofs.«01_k».proof.Proof.Block
public import proofs.«01_k».proof.Proof.Operand
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.EmbedValue

open Cert.KernelIdeal Cert.KernelIdeal.Gen

/-- The embedding with the batch axis last, at patch `p`, embedding entry `e`, batch entry `b`, patch `p` being in segment
    `k p`: the feature sum plus the table's row plus the bias. -/
def spec (X : FVec Ideal S1024x1984x32 .f32) (W : FVec Ideal S32x64 .f32) (B : FVec Ideal S64 .f32)
    (T : FVec Ideal S4x64 .f32) (k : Fin 1984 → Fin 4) : FVec Ideal S1984x64x1024 .f32 := fun j =>
  ((∑ d : Fin 32, (W (ix2 d (j 1)) * X (ix3 (j 2) (j 0) d) : EReal)) + (T (ix2 (k (j 0)) (j 1)) + B (ix1 (j 1))) : EReal)

/-- Every window's block number at a grid point: the patch windows move with the point, the left operand's stays. -/
theorem idx : ∀ t : Fin cfg0.N, win0_0.index t = ![t.val, 0, 0] ∧ win0_1.index t = ![t.val, 0, 0]
    ∧ win0_2.index t = ![0, 0] ∧ win0_3.index t = ![t.val, 0, 0] :=
  (by decide +kernel : ∀ t : Fin grid0.N, _)

variable (m : (ℓ : Loc nD τ sig) → Buf (Elt Ideal) ℓ) (c : Dev nD)

/-- The left operand the region finds. -/
theorem entry_operand : V m c main_v7 = operand (m (c, main_arg1)) (m (c, main_arg2)) (m (c, main_arg3)) := by
  simp only [V, V0, hostOps0, List.flatten_cons, List.flatten_nil, List.append_nil, List.cons_append, List.nil_append]
  after_results
  rfl

/-- The segment column the region finds. -/
theorem entry_seg : (V m c main_v8 : IVec S1984x1x1 32)
    = shapeCast S1984x1x1 (m (c, main_arg4) : IVec S1984 32) shapeCasts_S1984_S1984x1x1 := by
  simp only [V, V0, hostOps0, List.flatten_cons, List.flatten_nil, List.append_nil, List.cons_append, List.nil_append]
  after_results
  rfl

/-- The features the region finds, the batch axis last. -/
theorem entry_feat : (V m c main_v0 : FVec Ideal S1984x32x1024 .f32)
    = transpose S1984x32x1024 [1, 2, 0] (m (c, main_arg0) : FVec Ideal S1024x1984x32 .f32)
        transposes_S1024x1984x32_S1984x32x1024_1_2_0 := by
  simp only [V, V0, hostOps0, List.flatten_cons, List.flatten_nil, List.append_nil, List.cons_append, List.nil_append]
  after_results

/-- A segment block at a patch of the block: the segment number of that patch. -/
theorem seg_at (t : Fin cfg0.N) (p : Fin 62) (q : Fin 1984) (hq : q.val = t.val * 62 + p.val) :
    (iblk m c 0 t : IVec S62x1x1 32) (ix3 p 0 0) = (m (c, main_arg4) : IVec S1984 32) (ix1 q) := by
  have h : (iblk m c 0 t : IVec S62x1x1 32) (ix3 p 0 0) = (V m c main_v8 : IVec S1984x1x1 32) (ix3 q 0 0) := by
    blk_ext [iblk, idx t]
  rw [h, entry_seg]
  pointwise

/-- A feature block at an entry. -/
theorem feat_at (t : Fin cfg0.N) (p : Fin 62) (d : Fin 32) (b : Fin 1024) (q : Fin 1984) (hq : q.val = t.val * 62 + p.val) :
    (iblk m c 1 t : FVec Ideal S62x32x1024 .f32) (ix3 p d b) = (m (c, main_arg0) : FVec Ideal S1024x1984x32 .f32) (ix3 b q d) := by
  have h : (iblk m c 1 t : FVec Ideal S62x32x1024 .f32) (ix3 p d b)
      = (V m c main_v0 : FVec Ideal S1984x32x1024 .f32) (ix3 q d b) := by
    blk_ext [iblk, idx t]
  rw [h, entry_feat]
  pointwise

/-- The left operand's block is the whole operand. -/
theorem lhs_block (t : Fin cfg0.N) :
    (iblk m c 2 t : FVec Ideal S64x40 .f32) = operand (m (c, main_arg1)) (m (c, main_arg2)) (m (c, main_arg3)) := by
  rw [← entry_operand m c]
  blk_ext! [iblk, idx t]

section InTable

variable (k : Fin 1984 → Fin 4)
  (hk : ∀ p, (m (c, main_arg4) : IVec S1984 32) (ix1 p) = BitVec.ofNat 32 (k p).val)
include hk

/-- What grid point `t` computes at an entry of its block: the embedding of patch `q`, the patch the block has there. -/
theorem point (t : Fin cfg0.N) (p : Fin 62) (e : Fin 64) (b : Fin 1024) (q : Fin 1984) (hq : q.val = t.val * 62 + p.val) :
    k0_pay1 (F := Ideal) (iblk m c 1 t) (iblk m c 2 t) (iblk m c 0 t) (ix3 p e b)
      = spec (m (c, main_arg0)) (m (c, main_arg1)) (m (c, main_arg2)) (m (c, main_arg3)) k (ix3 q e b) := by
  have hs : (iblk m c 0 t : IVec S62x1x1 32) (ix3 p 0 0) = BitVec.ofNat 32 (k q).val := (seg_at m c t p q hq).trans (hk q)
  refine (block_at (iblk m c 1 t) (iblk m c 2 t) (iblk m c 0 t) p e b (k q) hs).trans ?_
  rw [lhs_block m c t, operand_table]
  refine congrArg (· + _) (Finset.sum_congr rfl fun d _ => ?_)
  rw [operand_weight, feat_at m c t p d b q hq]
  rfl

/-- The region's output array holds the embedding, the batch axis last. -/
theorem final : (dats m 0 c).arrAt 3 (cfgs 0).N
    = spec (m (c, main_arg0)) (m (c, main_arg1)) (m (c, main_arg2)) (m (c, main_arg3)) k := by
  refine (dats m 0 c).arrAt_eq_of_covers 3 _ (by decide +kernel) fun t _ y => ?_
  blk_simp
  rw [after0_3]
  frame_out
  have hN : t.val < 32 := t.isLt
  obtain ⟨p, e, b, rfl⟩ : ∃ (p : Fin 62) (e : Fin 64) (b : Fin 1024), y = ix3 p e b := ⟨y 0, y 1, y 2, by blk_ext []⟩
  refine (point m c k hk t p e b ⟨t.val * 62 + p.val, by omega⟩ rfl).trans (congrArg _ ?_)
  blk_ext [idx t]

end InTable

/-- The host operation after the region moves the batch axis to the front. -/
theorem result_eq : Pipeline.afterTail₀ cfgs (dats m) 0 (V0 m) [hostOps1] c main_v10 = transpose S1024x1984x64 [2, 0, 1] ((dats m 0 c).arrAt 3 (cfgs 0).N) transposes_S1984x64x1024_S1024x1984x64_2_0_1 := by
  unfold Pipeline.afterTail₀
  simp only [hostOps1, List.flatten_cons, List.flatten_nil, List.append_nil, List.cons_append, List.nil_append]
  after_results
  exact congrArg (fun a => transpose S1024x1984x64 [2, 0, 1] a transposes_S1984x64x1024_S1024x1984x64_2_0_1)
    (Pipeline.withArrays_arr (cfgs 0).spec (by decide) c (V0 m c) (fun w => (dats m 0 c).arrAt w (cfgs 0).N) 3)

omit c in
/-- The kernel's run: on every device the result is the region's output array with the batch axis moved to the front, and
    the arguments are unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v10)
          = transpose S1024x1984x64 [2, 0, 1] ((dats m 0 c).arrAt 3 (cfgs 0).N) transposes_S1984x64x1024_S1024x1984x64_2_0_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_main m ρ)
  have rest : ∀ b ∈ Pipeline.restRefs sig (cfgs 0).spec, r.2.mem ((c.tc : Thread nD τ).loc b)
      = Pipeline.afterTail₀ cfgs (dats m) 0 (V0 m) [hostOps1] c b := (h c).2
  exact ⟨(rest main_v10 (Pipeline.mem_restRefs_of main_v10 (by decide) (by decide))).trans (result_eq m c),
    (rest main_arg0 (Pipeline.mem_restRefs_of main_arg0 (by decide) (by decide))).trans (W_main_arg0 m (dats m) c),
    (rest main_arg1 (Pipeline.mem_restRefs_of main_arg1 (by decide) (by decide))).trans (W_main_arg1 m (dats m) c),
    (rest main_arg2 (Pipeline.mem_restRefs_of main_arg2 (by decide) (by decide))).trans (W_main_arg2 m (dats m) c),
    (rest main_arg3 (Pipeline.mem_restRefs_of main_arg3 (by decide) (by decide))).trans (W_main_arg3 m (dats m) c),
    (rest main_arg4 (Pipeline.mem_restRefs_of main_arg4 (by decide) (by decide))).trans (W_main_arg4 m (dats m) c)⟩

end Cert.KernelIdeal.EmbedValue

end
-- ==== Proof.Reference.lean ====
/- What the reference computes, entry by entry, where every segment number is a row of the table: the row is not
   shifted, the range mask is all ones, and the lookup reads the table's row. -/
module

public import proofs.«01_k».proof.Proof.Gen.ReferenceIdeal
public import Idealize.ShloMosaic.Lib.Pipeline.ValueKit
public import Idealize.ShloMosaic.Lib.Pointwise
public import Idealize.ShloMosaic.Lib.Routing.Ops

@[expose] public section

set_option maxRecDepth 16384

noncomputable section

open Idealize.ShloMosaic Idealize.SL.Sem

namespace Cert.ReferenceIdeal.EmbedValue

open Cert.ReferenceIdeal Cert.ReferenceIdeal.Gen

/-- The row numbers the lookup uses: a negative segment number counts from the table's end. -/
def rows (s : IVec S1984 32) : IVec S1984x1 32 :=
  broadcastInDim S1984x1 ![0] bcast_S1984_S1984x1_0
    (select (cmpi .slt s (broadcastInDim S1984 ![] bcast_S_S1984 (constantI S_ 32 0#32)))
      (addi s (broadcastInDim S1984 ![] bcast_S_S1984 (constantI S_ 32 4#32))) s)

/-- The mask of the row numbers lying in the table. -/
def inTable (s : IVec S1984 32) : IVec S1984 1 :=
  Host.reduce IntOp.andi
    (andi (cmpi .sge (rows s) (broadcastInDim S1984x1 ![] bcast_S_S1984x1 (constantI S_ 32 0#32)))
      (cmpi .sle (rows s) (broadcastInDim S1984x1 ![0, 1] bcast_S1x1_S1984x1_0_1
        (broadcastInDim S1x1 ![1] bcast_S1_S1x1_1 (constantI S1 32 3#32)))))
    (constantI S_ 1 1#1) reducesTo_S1984x1_S1984_d1 h_S_

/-- The looked-up rows, with the fill value where the mask is off. -/
def looked (T : FVec Ideal S4x64 .f32) (s : IVec S1984 32) : FVec Ideal S1984x64 .f32 :=
  select (broadcastInDim S1984x64 ![0] bcast_S1984_S1984x64_0 (inTable s))
    (Host.gather gather_S4x64_S1984x1_S1984x64_1_0_n_n_0_1_164 T (rows s))
    (broadcastInDim S1984x64 ![] bcast_S_S1984x64 (constant S_ .f32 0x7FC00000#32))

/-- The reference's result as a term of its five arguments. -/
def result (X : FVec Ideal S1024x1984x32 .f32) (W : FVec Ideal S32x64 .f32) (B : FVec Ideal S64 .f32)
    (T : FVec Ideal S4x64 .f32) (s : IVec S1984 32) : FVec Ideal S1024x1984x64 .f32 :=
  addf
    (broadcastInDim S1024x1984x64 ![0, 1, 2] bcast_S1x1984x64_S1024x1984x64_0_1_2
      (broadcastInDim S1x1984x64 ![1, 2] bcast_S1984x64_S1x1984x64_1_2 (looked T s)))
    (addf (Host.dotGeneral dot_S1024x1984x32_S32x64_S1024x1984x64_2_0_01_1_n_n none X W)
      (broadcastInDim S1024x1984x64 ![0, 1, 2] bcast_S1x1x64_S1024x1984x64_0_1_2
        (broadcastInDim S1x1x64 ![2] bcast_S64_S1x1x64_2 B)))

section InTable

variable (s : IVec S1984 32) (p : Fin 1984) (k : Fin 4) (hk : s (ix1 p) = BitVec.ofNat 32 k.val)
include hk

/-- A segment number in the table is the row number used. -/
theorem rows_at : rows s (ix2 p 0) = BitVec.ofNat 32 k.val := by
  pointwise [rows]
  rw [hk]
  clear hk
  revert k; decide

/-- A segment number in the table passes the mask. -/
theorem inTable_at : inTable s (ix1 p) = 1#1 := by
  pointwise [inTable]
  rw [Finset.univ_unique, Finset.fold_singleton]
  have h := rows_at s p k hk
  rw [show (default : Fin 1) = 0 from rfl, h]
  clear h hk
  revert k; decide

/-- The looked-up row is the table's row. -/
theorem looked_at (T : FVec Ideal S4x64 .f32) (e : Fin 64) : looked T s (ix2 p e) = T (ix2 k e) := by
  have hg : Host.gather gather_S4x64_S1984x1_S1984x64_1_0_n_n_0_1_164 T (rows s) (ix2 p e) = T (ix2 k e) :=
    Routing.gather_row _ rfl rfl rfl rfl rfl T (rows s) p e k (rows_at s p k hk) (by decide)
  pointwise [looked]
  rw [inTable_at s p k hk]
  exact hg

/-- The reference's result at batch entry `b`, patch `p` in segment `k`, embedding entry `e`. -/
theorem result_at (X : FVec Ideal S1024x1984x32 .f32) (W : FVec Ideal S32x64 .f32) (B : FVec Ideal S64 .f32)
    (T : FVec Ideal S4x64 .f32) (b : Fin 1024) (e : Fin 64) :
    result X W B T s (ix3 b p e)
      = (T (ix2 k e) + ((∑ d : Fin 32, (X (ix3 b p d) * W (ix2 d e) : EReal)) + B (ix1 e)) : EReal) := by
  pointwise [result]
  rw [looked_at s p k hk]

end InTable

end Cert.ReferenceIdeal.EmbedValue

end
-- ==== Proof.Equation.lean ====
/- The equation: with every segment number a row of the table, the kernel's array, batch axis moved to the front, is the
   reference's result. The two differ in the order of a product and in the grouping of a three-term sum. -/
module

public import proofs.«01_k».proof.Proof.Array
public import proofs.«01_k».proof.Proof.Reference

@[expose] public section

set_option maxRecDepth 16384

noncomputable section

open Idealize.ShloMosaic Idealize.SL.Sem

namespace Cert.EmbedEquation

open Cert.KernelIdeal Cert.KernelIdeal.Gen

/-- The embedding with the batch axis moved to the front is the reference's result. -/
theorem spec_eq_result (X : FVec Ideal S1024x1984x32 .f32) (W : FVec Ideal S32x64 .f32) (B : FVec Ideal S64 .f32)
    (T : FVec Ideal S4x64 .f32) (s : IVec S1984 32) (k : Fin 1984 → Fin 4)
    (hk : ∀ p, s (ix1 p) = BitVec.ofNat 32 (k p).val) :
    transpose S1024x1984x64 [2, 0, 1] (Cert.KernelIdeal.EmbedValue.spec X W B T k)
        transposes_S1984x64x1024_S1024x1984x64_2_0_1
      = Cert.ReferenceIdeal.EmbedValue.result X W B T s := by
  funext i
  obtain ⟨b, p, e, rfl⟩ : ∃ (b : Fin 1024) (p : Fin 1984) (e : Fin 64), i = ix3 b p e := ⟨i 0, i 1, i 2, by blk_ext []⟩
  rw [Cert.ReferenceIdeal.EmbedValue.result_at s p (k p) (hk p)]
  have ht : transpose S1024x1984x64 [2, 0, 1] (Cert.KernelIdeal.EmbedValue.spec X W B T k)
      transposes_S1984x64x1024_S1024x1984x64_2_0_1 (ix3 b p e) = Cert.KernelIdeal.EmbedValue.spec X W B T k (ix3 p e b) := by
    pointwise
  rw [ht]
  show ((∑ d : Fin 32, (W (ix2 d e) * X (ix3 b p d) : EReal)) + (T (ix2 (k p) e) + B (ix1 e)) : EReal) = _
  rw [Finset.sum_congr rfl fun d _ => mul_comm (W (ix2 d e) : EReal) (X (ix3 b p d))]
  exact add_left_comm _ _ _

end Cert.EmbedEquation

end
-- ==== Proof.lean ====
/- The proof of every claim about the kernel: its two frames, the reference's frame, and the equality of the two results
   over the extended reals where every segment number is a row of the table. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_rows_of_table
public import proofs.«01_k».proof.Proof.Segments
public import proofs.«01_k».proof.Proof.Array
public import proofs.«01_k».proof.Proof.Reference
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference ends with its arguments unchanged and every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono
    (fun r h => ⟨fun c => (h c).2, sem_eq_zero_of_no_sems (by decide) r.2⟩) (Cert.ReferenceIdeal.Value.run (F := Ideal) m ρ)

/-- Kernel and reference end with equal results where every segment number is a row of the table. -/
theorem results_agree : Cert.algebraic_KernelIdeal_ReferenceIdeal_pre_rows_of_table := by
  intro m g m' g' hpre hargs
  refine ⟨fun c => transpose Cert.KernelIdeal.S1024x1984x64 [2, 0, 1]
      ((Cert.KernelIdeal.Gen.dats m 0 c).arrAt 3 (Cert.KernelIdeal.cfgs 0).N)
      Cert.KernelIdeal.Gen.transposes_S1984x64x1024_S1024x1984x64_2_0_1, Cert.KernelIdeal.EmbedValue.run m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4⟩ := hargs c
  rw [h0, h1, h2, h3, h4]
  obtain ⟨k, hk⟩ := Cert.Pre_rows_of_table.EmbedValue.rows_exist _ _ _ _ _ (hpre c)
  beta_reduce
  rw [Cert.KernelIdeal.EmbedValue.final m c k hk]
  exact (Cert.EmbedEquation.spec_eq_result _ _ _ _ _ k hk).symm

/-- Every claim about the kernel. -/
theorem claim : Cert.Claim :=
  ⟨Cert.Kernel.Gen.facts, Cert.KernelIdeal.Gen.facts, Cert.ReferenceIdeal.Gen.facts, Cert.Pre_rows_of_table.Gen.facts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    trivial, results_agree⟩

end Cert.Proof

end
